-- ==== Defs.lean ====
def Pre_Kernel [hPre_exchange_Kernel : Cert.Pre_exchange_Kernel.Facts] (m : (ℓ : Loc Cert.Kernel.nD Cert.Kernel.τ Cert.Kernel.sig) → Buf (Elt Bits) ℓ) : Prop :=
  ∀ c : Dev Cert.Kernel.nD,
    (Cert.Pre_exchange_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_identity_Kernel [hPre_identity_Kernel : Cert.Pre_identity_Kernel.Facts] (m : (ℓ : Loc Cert.Kernel.nD Cert.Kernel.τ Cert.Kernel.sig) → Buf (Elt Bits) ℓ) : Prop :=
  ∀ c : Dev Cert.Kernel.nD,
    (Cert.Pre_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchange_Kernel : Cert.Pre_exchange_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchange_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_identity_Kernel [hPre_identity_Kernel : Cert.Pre_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchange_ReferenceIdeal [hPre_exchange_ReferenceIdeal : Cert.Pre_exchange_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchange_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_identity_ReferenceIdeal [hPre_identity_ReferenceIdeal : Cert.Pre_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_exchange_Kernel : Cert.Pre_exchange_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_identity_Kernel [hKernel : Cert.Kernel.Facts] [hPre_identity_Kernel : Cert.Pre_identity_Kernel.Facts] : Prop :=
  ∀ (m : (ℓ : Loc Cert.Kernel.nD Cert.Kernel.τ Cert.Kernel.sig) → Buf (Elt Bits) ℓ) (g : Dev Cert.Kernel.nD → PrngReg), Pre_Kernel_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_identity_Kernel [hKernelIdeal : Cert.KernelIdeal.Facts] [hPre_identity_Kernel : Cert.Pre_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchange_ReferenceIdeal [hReferenceIdeal : Cert.ReferenceIdeal.Facts] [hPre_exchange_ReferenceIdeal : Cert.Pre_exchange_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchange_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_identity_ReferenceIdeal [hReferenceIdeal : Cert.ReferenceIdeal.Facts] [hPre_identity_ReferenceIdeal : Cert.Pre_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_identity_Kernel [hKernelIdeal : Cert.KernelIdeal.Facts] [hReferenceIdeal : Cert.ReferenceIdeal.Facts] [hPre_identity_Kernel : Cert.Pre_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_identity_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exchange_Kernel : Cert.Pre_exchange_Kernel.Facts) (hPre_identity_Kernel : Cert.Pre_identity_Kernel.Facts) (hPre_exchange_ReferenceIdeal : Cert.Pre_exchange_ReferenceIdeal.Facts) (hPre_identity_ReferenceIdeal : Cert.Pre_identity_ReferenceIdeal.Facts),
    quiescent_Kernel (hKernel := hKernel) (hPre_exchange_Kernel := hPre_exchange_Kernel)
    ∧ quiescent_Kernel_pre_identity_Kernel (hKernel := hKernel) (hPre_identity_Kernel := hPre_identity_Kernel)
    ∧ quiescent_KernelIdeal (hKernelIdeal := hKernelIdeal) (hPre_exchange_Kernel := hPre_exchange_Kernel)
    ∧ quiescent_KernelIdeal_pre_identity_Kernel (hKernelIdeal := hKernelIdeal) (hPre_identity_Kernel := hPre_identity_Kernel)
    ∧ quiescent_ReferenceIdeal (hReferenceIdeal := hReferenceIdeal)
    ∧ quiescent_ReferenceIdeal_pre_exchange_ReferenceIdeal (hReferenceIdeal := hReferenceIdeal) (hPre_exchange_ReferenceIdeal := hPre_exchange_ReferenceIdeal)
    ∧ quiescent_ReferenceIdeal_pre_identity_ReferenceIdeal (hReferenceIdeal := hReferenceIdeal) (hPre_identity_ReferenceIdeal := hPre_identity_ReferenceIdeal)
    ∧ preserves_Kernel_KernelIdeal
    ∧ algebraic_KernelIdeal_ReferenceIdeal (hKernelIdeal := hKernelIdeal) (hReferenceIdeal := hReferenceIdeal) (hPre_exchange_Kernel := hPre_exchange_Kernel)
    ∧ algebraic_KernelIdeal_ReferenceIdeal_pre_identity_Kernel (hKernelIdeal := hKernelIdeal) (hReferenceIdeal := hReferenceIdeal) (hPre_identity_Kernel := hPre_identity_Kernel)
-- ==== Pre_exchange_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_exchange_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_identity_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_identity_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .smem, ⟨0, _⟩ => ⟨S2, .i32⟩
  | _, _ => ⟨S1x4096x2048, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) (v7 : BitVec 32) : Nat :=
  let c0_i32_5 : BitVec 32 := 0#32
  let c2_i32_4 : BitVec 32 := 2#32
  let v15 : BitVec 32 := Scalar.muli v7 c2_i32_4
  let v16 : BitVec 32 := Scalar.addi c0_i32_5 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v17 : BitVec 32 := Scalar.muli v5 c1_i32_6
  let v18 : BitVec 32 := Scalar.addi v16 v17
  v18.toNat
def k0_cond2 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 1 := Scalar.cmpi .ne v7 v2
  let v12 : BitVec 32 := Scalar.extui v11
  let c0_i32_2 : BitVec 32 := 0#32
  let v13 : BitVec 1 := Scalar.cmpi .ne v12 c0_i32_2
  v13

def k0_dev2 (d0 : Dev nD) (v7 : BitVec 32) : Nat :=
  let c0_i32_9 : BitVec 32 := 0#32
  let c2_i32_8 : BitVec 32 := 2#32
  let v19 : BitVec 32 := Scalar.muli v7 c2_i32_8
  let v20 : BitVec 32 := Scalar.addi c0_i32_9 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v21 : BitVec 32 := Scalar.muli v5 c1_i32_10
  let v22 : BitVec 32 := Scalar.addi v20 v21
  v22.toNat

def k0_chk1 (d0 : Dev nD) (v7 : BitVec 32) : Prop :=
  (∀ (k0_h2 : k0_cond2 d0 v7 = 1#1), (k0_dev1 d0 v7) < nD) ∧
  (∀ (k0_h2 : k0_cond2 d0 v7 = 1#1), (k0_dev2 d0 v7) < nD)
theorem k0_dev1_lt : ∀ (d0 : Dev nD) (v7 : BitVec 32) (k0_hw1 : k0_chk1 d0 v7), ∀ (k0_h2 : k0_cond2 d0 v7 = 1#1), (k0_dev1 d0 v7) < nD := fun d0 v7 k0_hw1 k0_h2 => k0_hw1.1 k0_h2
theorem k0_dev2_lt : ∀ (d0 : Dev nD) (v7 : BitVec 32) (k0_hw1 : k0_chk1 d0 v7), ∀ (k0_h2 : k0_cond2 d0 v7 = 1#1), (k0_dev2 d0 v7) < nD := fun d0 v7 k0_hw1 k0_h2 => k0_hw1.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Cells.lean ====
/-
The permuting kernel's launch: the semaphore cells, what is handed over at each of them, what a device owes.

The mesh is 2 x 2 and device `c` stands at row `c / 2`. The table either exchanges the two rows (`b = true`) or keeps
them (`b = false`); one schedule, indexed by `b`, serves both. A device has four cells:

  0  the barrier: its partner announces that its result array may be written, and hands that array over;
  1  the sending end of the remote copy: the copy's source comes back;
  2  the receiving end: the result array comes back, holding the partner's block;
  3  the local copy: source and result array come back, the result holding the device's own block.

An exchanging device uses the first three, a keeping device the last. The partner is an involution, so a device pays
its partner's cells 0 and 2 and its own 1 and 3.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds beside the kernel's own. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev EK : Emb (URounds (GSem nD τ sig) Unit) (MT nD τ sig Unit (Elt F) ℕ UU ℕ) := embR

/-! ## The partner -/

/-- The device of the other row in the same column. -/
def peer (c : Dev nD) : Dev nD := ⟨(c.val + 2) % 4, Nat.mod_lt _ (by decide)⟩
theorem peer_peer (c : Dev nD) : peer (peer c) = c := by revert c; decide
def peers : Dev nD ≃ Dev nD := ⟨peer, peer, peer_peer, peer_peer⟩

/-- The device whose block ends up on `c`. -/
def source (b : Bool) (c : Dev nD) : Dev nD := if b then peer c else c

/-! ## The cells -/

abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem
abbrev copyS : DmaSem sig := (cc0_scratch2 : DmaSems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)
abbrev copyCell (c : Dev nD) : GSem nD τ sig := ((c : Thread nD τ), .dma copyS)

/-- The four semaphores by number. -/
abbrev ksem : Fin 4 → SemLoc sig := ![.reg barS, .dma sendS, .dma recvS, .dma copyS]
/-- The last three are the kernel's own. -/
abbrev osem : Fin 3 → SemLoc sig := ![.dma sendS, .dma recvS, .dma copyS]
abbrev cell (x : Dev nD × Fin 4) : GSem nD τ sig := ((x.1 : Thread nD τ), ksem x.2)

theorem ksem_inj : Function.Injective ksem := by decide
theorem cell_inj : Function.Injective cell := fun x y h =>
  Prod.ext (congrArg (fun g : GSem nD τ sig => g.1.1) h) (ksem_inj (congrArg Prod.snd h))

/-- Which of the four a semaphore is. -/
def kindOf (s : SemLoc sig) : Option (Fin 4) :=
  if s = ksem 0 then some 0 else if s = ksem 1 then some 1 else if s = ksem 2 then some 2 else if s = ksem 3 then some 3 else none
theorem kindOf_ksem (k : Fin 4) : kindOf (ksem k) = some k := by revert k; decide

/-! ## The buffers -/

abbrev xM : Memref sig .tc .hbm S1x4096x2048 .f32 := Memref.whole main_arg0
abbrev oM : Memref sig .tc .hbm S1x4096x2048 .f32 := Memref.whole main_v1

/-- The units a copy of one block adds to a semaphore. -/
abbrev N : ℕ := oM.view.dmaCredit
theorem N_pos : 0 < N := View.dmaCredit_pos _ (by decide)
theorem credit_x : xM.view.dmaCredit = N := rfl

variable (b : Bool) (m : (ℓ : Loc nD τ sig) → Buf (Elt F) ℓ)

/-- Device `c`'s block at launch. -/
def blk (c : Dev nD) : FVec F S1x4096x2048 .f32 := m ((c : Thread nD τ).loc main_arg0)

/-- Device `c`'s argument block, and its result array, at given contents. -/
def xAt (c : Dev nD) (f : FVec F S1x4096x2048 .f32) : sProp 𝕄 := ((c : Thread nD τ).loc main_arg0) ↦{fullShare} f
def oAt (c : Dev nD) (f : FVec F S1x4096x2048 .f32) : sProp 𝕄 := ((c : Thread nD τ).loc main_v1) ↦{fullShare} f

instance xAt_storable (c : Dev nD) (f) : BI.Storable (upEmb : UEmb _ 𝕄) (xAt (F := F) c f) := by unfold xAt; infer_instance
instance oAt_storable (c : Dev nD) (f) : BI.Storable (upEmb : UEmb _ 𝕄) (oAt (F := F) c f) := by unfold oAt; infer_instance

/-- Seen through the memrefs the transfers name. -/
theorem xAt_view (c : Dev nD) (f : FVec F S1x4096x2048 .f32) :
    xAt c f = (xM.view.loc (c : Thread nD τ) ↦[xM.view.set]{fullShare} f : sProp 𝕄) := by
  unfold xAt; rw [View.set_whole]
theorem oAt_view (c : Dev nD) (f : FVec F S1x4096x2048 .f32) :
    oAt c f = (oM.view.loc (c : Thread nD τ) ↦[oM.view.set]{fullShare} f : sProp 𝕄) := by
  unfold oAt; rw [View.set_whole]

/-- A whole block copied onto a whole block is that block. -/
theorem copied (f g : FVec F S1x4096x2048 .f32) :
    oM.view.write (Elt F) g (xM.view.read (Elt F) f) Finset.univ = f := by
  show (View.whole main_v1).write (Elt F) g ((View.whole main_arg0).read (Elt F) f) Finset.univ = f
  rw [View.read_whole]
  exact View.write_whole_univ _ _ _

/-! ## The schedule -/

/-- Whether cell `k` is used. -/
def live : Bool → Fin 4 → Bool
  | true, k => decide (k ≠ 3)
  | false, k => decide (k = 3)

/-- How many units cell `k` gets. -/
def units (k : Fin 4) : ℕ := if k = 0 then 1 else N
theorem units_pos (k : Fin 4) : 0 < units k := by
  unfold units; split
  · exact Nat.one_pos
  · exact N_pos

/-- What is handed over at device `c`'s cell `k`. -/
def hand (c : Dev nD) : Fin 4 → sProp 𝕄 :=
  ![iprop((∃ f, oAt (peer c) f) ∗ reached EK (recvCell (peer c)) 0),
    xAt c (blk m c),
    oAt c (blk m (peer c)),
    iprop(oAt c (blk m c) ∗ xAt c (blk m c))]

instance hand_storable (c : Dev nD) (k : Fin 4) : BI.Storable (upEmb : UEmb _ 𝕄) (hand m c k) := by
  fin_cases k
  · show BI.Storable upEmb iprop((∃ f, oAt (peer c) f) ∗ reached EK (recvCell (peer c)) 0); infer_instance
  · show BI.Storable upEmb (xAt c (blk m c)); infer_instance
  · show BI.Storable upEmb (oAt c (blk m (peer c))); infer_instance
  · show BI.Storable upEmb iprop(oAt c (blk m c) ∗ xAt c (blk m c)); infer_instance

/-- One round of one duty on each used cell. -/
def plan : Rounds.Schedule (GSem nD τ sig) Unit 𝕄 where
  duties g r := match kindOf g.2 with
    | some k => if r = 0 ∧ live b k = true then {()} else ∅
    | none => ∅
  unitless _ := False
  amount g _ _ := match kindOf g.2 with
    | some k => units k
    | none => 1
  payload g _ _ := match kindOf g.2 with
    | some k => hand m g.1.1 k
    | none => iprop(emp)
  amount_pos g _ _ _ := by
    split
    · exact units_pos _
    · exact Nat.one_pos

instance plan_storable (g : GSem nD τ sig) (r : ℕ) (d : Unit) : BI.Storable (upEmb : UEmb _ 𝕄) ((plan b m).payload g r d) := by
  dsimp only [plan]; split <;> infer_instance

theorem duties_cell (c : Dev nD) (k : Fin 4) (h : live b k = true) : (plan b m).duties (cell (c, k)) 0 = {()} := by
  dsimp only [plan]; rw [kindOf_ksem]; exact if_pos ⟨rfl, h⟩
theorem duties_dead (c : Dev nD) (k : Fin 4) (h : live b k = false) (r : ℕ) : (plan b m).duties (cell (c, k)) r = ∅ := by
  dsimp only [plan]; rw [kindOf_ksem]; exact if_neg fun h' => by rw [h] at h'; exact Bool.false_ne_true h'.2
theorem duties_later (g : GSem nD τ sig) (r : ℕ) (hr : 1 ≤ r) : (plan b m).duties g r = ∅ := by
  dsimp only [plan]; split
  · exact if_neg fun h => by omega
  · rfl
theorem amount_cell (c : Dev nD) (k : Fin 4) : (plan b m).amount (cell (c, k)) 0 () = units k := by
  dsimp only [plan]; rw [kindOf_ksem]
theorem payload_cell (c : Dev nD) (k : Fin 4) : (plan b m).payload (cell (c, k)) 0 () = hand m c k := by
  dsimp only [plan]; rw [kindOf_ksem]
theorem expect_cell (c : Dev nD) (k : Fin 4) (h : live b k = true) : (plan b m).expect (cell (c, k)) 0 = units k := by
  unfold Schedule.expect Schedule.amountOf; rw [duties_cell b m c k h, Finset.sum_singleton, amount_cell]
theorem rest_cell (c : Dev nD) (k : Fin 4) (h : live b k = true) :
    bigSep ((plan b m).duties (cell (c, k)) 0 \ ∅) (fun d => (plan b m).payload (cell (c, k)) 0 d) = hand m c k := by
  rw [Finset.sdiff_empty, duties_cell b m c k h, bigSep_singleton, payload_cell]

/-! ## What a device owes, and the levels -/

/-- What is due at device `c`'s cells from another device. -/
def due (c : Dev nD) : CellTallies nD τ sig Unit := if b then tallyAt (recvCell c) () N + tallyAt (barCell c) () 1 else 0
/-- A device owes its partner's cells. -/
def owed (c : Dev nD) : CellTallies nD τ sig Unit := due b (peer c)

theorem tallyAt_at {g g' : GSem nD τ sig} {n : ℕ} {u : Unit} (h : 0 < (tallyAt g () n : CellTallies nD τ sig Unit) g' u) : g' = g := by
  rw [tallyAt_apply] at h; by_contra hn; rw [if_neg fun h' => hn h'.1] at h; exact Nat.lt_irrefl 0 h

theorem due_at {c : Dev nD} {g : GSem nD τ sig} {u : Unit} (h : 0 < due b c g u) : g = recvCell c ∨ g = barCell c := by
  unfold due at h; split at h
  · rw [Pi.add_apply, Finsupp.add_apply] at h
    rcases Nat.add_pos_iff_pos_or_pos.mp h with h | h
    · exact Or.inl (tallyAt_at h)
    · exact Or.inr (tallyAt_at h)
  · exact absurd h (Nat.lt_irrefl 0)

/-- Only cells of the TensorCores are used. -/
def L (g : GSem nD τ sig) : Finset Unit := if g.1.2 = .tc then {()} else ∅
/-- Barriers below receiving ends, everything else at the bottom. -/
def lv (g : GSem nD τ sig) (_ : Unit) : ℕ := if g.2 = .reg barS then 1 else if g.2 = .dma recvS then 2 else 0

theorem L_other (g : GSem nD τ sig) (h : g.1.2 ≠ .tc) : L g = ∅ := if_neg h
theorem mem_L (c : Dev nD) (s : SemLoc sig) (u : Unit) : u ∈ L ((c : Thread nD τ), s) := by
  unfold L; rw [if_pos rfl]; exact Finset.mem_singleton_self _
theorem lv_bar (c : Dev nD) : lv (barCell c) () = 1 := if_pos rfl
theorem lv_recv (c : Dev nD) : lv (recvCell c) () = 2 := by
  unfold lv; rw [if_neg (fun h => by cases h), if_pos rfl]

/-- A device may wait at a cell below all it owes. -/
theorem may_wait (c : Dev nD) (s : SemLoc sig) (O : CellTallies nD τ sig Unit)
    (h : ∀ g u, 0 < O g u → (∃ d : Dev nD, g.1 = (d : Thread nD τ)) ∧ lv ((c : Thread nD τ), s) () < lv g ()) :
    (levAts L lv : sProp 𝕄) ⊢ MayWait (c : Thread nD τ) s () O :=
  MayOwe.of_cut (L := L) (lev := lv) (lv ((c : Thread nD τ), s) ()) (fun p _ => mem_L c p.1 p.2)
    (fun g u hg => by
      obtain ⟨⟨d, hd⟩, -⟩ := h g u hg
      obtain ⟨g1, g2⟩ := g
      obtain rfl : g1 = (d : Thread nD τ) := hd
      exact mem_L d g2 u)
    (fun p hp => by rw [Finset.mem_singleton.mp hp])
    (fun g u hg => (h g u hg).2)

/-- Owing its partner's cells, a device may wait at any cell of level 0; -/
theorem may_wait_low (c : Dev nD) (s : SemLoc sig) (hs : lv ((c : Thread nD τ), s) () = 0) :
    (levAts L lv : sProp 𝕄) ⊢ MayWait (c : Thread nD τ) s () (owed b c) :=
  may_wait c s _ fun g u hg => by
    rw [hs]
    rcases due_at b hg with rfl | rfl
    · exact ⟨⟨_, rfl⟩, by rw [lv_recv]; decide⟩
    · exact ⟨⟨_, rfl⟩, by rw [lv_bar]; decide⟩
/-- owing only the copy, at its barrier. -/
theorem may_wait_bar (c : Dev nD) :
    (levAts L lv : sProp 𝕄) ⊢ MayWait (c : Thread nD τ) (.reg barS) () (tallyAt (recvCell (peer c)) () N) :=
  may_wait c _ _ fun g u hg => by
    obtain rfl := tallyAt_at hg
    exact ⟨⟨_, rfl⟩, by rw [lv_bar, lv_recv]; decide⟩

/-- At launch a device gets the credit for what is due at its cells. -/
theorem launch_credit (c : Dev nD) : (Pipeline.launchCred (owed b) c : sProp 𝕄) = cred (due b c) :=
  Pipeline.launchCred_of_sum (owed b) (due b) (Equiv.sum_comp peers (due b))
    (fun d g hg => by
      obtain ⟨u, hu⟩ := Finsupp.ne_iff.mp hg
      rcases due_at b (Nat.pos_of_ne_zero hu) with rfl | rfl <;> rfl) c

end Cert.Permute

end
-- ==== Proof.Body.lean ====
/-
The permuting kernel's body on one device, under a table that exchanges the rows or keeps them.
-/
module

public import proofs.«01_k».proof.Proof.Cells

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (b : Bool) (m : (ℓ : Loc nD τ sig) → Buf (Elt F) ℓ)

/-! ## The table -/

/-- Device `c`'s entry of the table: its row; -/
def slot (c : Dev nD) : S2.Idx := fun a => ⟨c.val / 2, by have : c.val < 4 := c.isLt; fin_cases a; show c.val / 2 < 2; omega⟩
/-- what stands there: the other row, or its own. -/
def wordOf (c : Dev nD) : BitVec 32 := BitVec.ofNat 32 (if b then 1 - c.val / 2 else c.val / 2)

/-- Every device's table exchanges the rows (`b`), or keeps them. -/
def Table : Prop := ∀ c : Dev nD, (m ((c : Thread nD τ).loc main_arg1) : IVec S2 32) (slot c) = wordOf b c

/-- The table as staged. -/
def staged (c : Dev nD) : (cc0_stg0_0 : Ref sig .tc).ty.Contents (Elt F) :=
  (win0_0.blk (0 : Fin 1)).view.read (Elt F) (m ((c : Thread nD τ).loc main_arg1))

abbrev tM : Memref sig .tc .smem S2 .i32 := Memref.whole cc0_stg0_0
abbrev entry (c : Dev nD) : Rect S2 := Rect.unit (s := S2) (k0_off1 c) S1.size (k0_off1_inb c)

/-- The word the body loads. -/
theorem load_word {b : Bool} {m : (ℓ : Loc nD τ sig) → Buf (Elt F) ℓ} (h : Table b m) (c : Dev nD) (h1 : 0 < (entry c).shape.numel) :
    (tM.access (entry c) : View sig .tc _ _ _).read (Elt F) (staged m c) (Shape.Idx.first h1) = wordOf b c := by
  refine Eq.trans ?_ (h c)
  show m ((c : Thread nD τ).loc main_arg1) _ = _
  refine congrArg _ (funext fun a => Fin.ext ?_)
  fin_cases a; fin_cases c <;> rfl

/-- The word names a device; -/
theorem word_chk (c : Dev nD) : k0_chk1 c (wordOf b c) := by
  have h : ∀ (b : Bool) (c : Dev nD), k0_dev1 c (wordOf b c) < nD ∧ k0_dev2 c (wordOf b c) < nD := by decide +kernel
  exact ⟨fun _ => (h b c).1, fun _ => (h b c).2⟩
/-- the body's first branch is taken by a keeping device, -/
theorem word_first (c : Dev nD) :
    (Scalar.cmpi .ne (Scalar.extui (Scalar.cmpi .eq (wordOf b c) (Scalar.remsi (Scalar.divsi (Dev.word c) 2#32) 2#32)) : BitVec 32) 0#32 = 1#1) = (b = false) := by
  refine propext ?_
  revert b c; decide +kernel
/-- the second by an exchanging one, -/
theorem word_second (c : Dev nD) : (k0_cond2 c (wordOf b c) = 1#1) = (b = true) := by
  refine propext ?_
  revert b c; decide +kernel
/-- which addresses its partner. -/
theorem word_dev1 (c : Dev nD) : k0_dev1 c (wordOf true c) = (peer c).val := by revert c; decide +kernel
theorem word_dev2 (c : Dev nD) : k0_dev2 c (wordOf true c) = (peer c).val := by revert c; decide +kernel

/-! ## What the body starts from and ends with -/

/-- Whose cell a device pays: its partner's barrier and receiving end, its own others. -/
def payee (x : Dev nD × Fin 4) : Dev nD × Fin 4 := (![peer x.1, x.1, peer x.1, x.1] x.2, x.2)
theorem payee_payee (x : Dev nD × Fin 4) : payee (payee x) = x := by
  obtain ⟨c, k⟩ := x
  unfold payee
  fin_cases k <;> simp [peer_peer]
def payees : Dev nD × Fin 4 ≃ Dev nD × Fin 4 := ⟨payee, payee, payee_payee, payee_payee⟩

/-- All cells' invariants, at names `K`, and that all are at round 0. -/
def records (K : Dev nD × Fin 4 → ℕ) : sProp 𝕄 :=
  iprop((bigSep Finset.univ fun x : Dev nD × Fin 4 => cellInv EK (plan b m) (K x) (cell x))
    ∗ bigSep Finset.univ fun x : Dev nD × Fin 4 => reached EK (cell x) 0)
instance records_persistent (K : Dev nD × Fin 4 → ℕ) : BI.Persistent (records b m K) := by unfold records; infer_instance

theorem inv_of_all (K : Dev nD × Fin 4 → ℕ) (x : Dev nD × Fin 4) :
    (bigSep Finset.univ fun x : Dev nD × Fin 4 => (cellInv EK (plan b m) (K x) (cell x) : sProp 𝕄)) ⊢ cellInv EK (plan b m) (K x) (cell x) :=
  bigSep_elim (Finset.mem_univ x)
theorem reached_of_all (x : Dev nD × Fin 4) :
    (bigSep Finset.univ fun x : Dev nD × Fin 4 => (reached EK (cell x) 0 : sProp 𝕄)) ⊢ reached EK (cell x) 0 :=
  bigSep_elim (Finset.mem_univ x)
theorem records_inv (K : Dev nD × Fin 4 → ℕ) (x : Dev nD × Fin 4) : records b m K ⊢ cellInv EK (plan b m) (K x) (cell x) := by
  unfold records; iintro ⟨H, -⟩; iapply (inv_of_all b m K x); iexact H
theorem records_reached (K : Dev nD × Fin 4 → ℕ) (x : Dev nD × Fin 4) : records b m K ⊢ reached EK (cell x) 0 := by
  unfold records; iintro ⟨-, H⟩; iapply (reached_of_all x); iexact H

/-- Device `c`'s position at its own cells, and its tokens for the cells it pays. -/
def mine (c : Dev nD) : sProp 𝕄 :=
  bigSep Finset.univ fun k : Fin 4 => iprop(atPos EK (cell (c, k)) 0 ∅ 0 ∗ dutyTok EK (cell (payee (c, k))) 0 ())
def ghost (c : Dev nD) : sProp 𝕄 := iprop(∃ K, records b m K ∗ mine c)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- At the start: all that, the credit for what others owe, the levels, and the two buffers. -/
def start (c : Dev nD) : sProp 𝕄 :=
  iprop(ghost b m c ∗ cred (due b c) ∗ levAts L lv ∗ xAt c (blk m c) ∗ ∃ f, oAt c f)
/-- At the end: the buffers, the result holding the block the table sends here, and the four counters at zero. -/
def finish (c : Dev nD) : sProp 𝕄 :=
  iprop(xAt c (blk m c) ∗ oAt c (blk m (source b c)) ∗ bigSep Finset.univ fun k : Fin 4 => semVal (cell (c, k)) 0)

def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => start b m c
    | ⟨_ + 1, _⟩ => finish b m c
  q _ := fullShare
  owed t := match t with
    | ⟨0, _⟩ => owed b c
    | ⟨_ + 1, _⟩ => 0

abbrev 𝒱₀ : Variants := Variants.none

/-! ## The steps -/

theorem duty_mem (c : Dev nD) (i : Fin 4) (h : live b i = true) : () ∈ (plan b m).duties (cell (c, i)) 0 := by
  rw [duties_cell b m c i h]; exact Finset.mem_singleton_self _

/-- What the cells are given, as the transfers count it. -/
theorem units_other (i : Fin 4) (h : i ≠ 0) : N = units i := (if_neg h).symm
theorem amount_bar (c : Dev nD) : (plan b m).amount (barCell c) 0 () = 1 := (amount_cell b m c 0).trans (if_pos rfl)
theorem amount_send (c : Dev nD) : (plan b m).amount (sendCell c) 0 () = N := (amount_cell b m c 1).trans (units_other 1 (by decide)).symm
theorem amount_recv (c : Dev nD) : (plan b m).amount (recvCell c) 0 () = N := (amount_cell b m c 2).trans (units_other 2 (by decide)).symm
theorem amount_copy (c : Dev nD) : (plan b m).amount (copyCell c) 0 () = N := (amount_cell b m c 3).trans (units_other 3 (by decide)).symm

/-- The duties, at the cells as the transfers name them. -/
theorem mem_bar (c : Dev nD) : () ∈ (plan true m).duties (barCell c) 0 := duty_mem true m c 0 rfl
theorem mem_send (c : Dev nD) : () ∈ (plan true m).duties (sendCell c) 0 := duty_mem true m c 1 rfl
theorem mem_recv (c : Dev nD) : () ∈ (plan true m).duties (recvCell c) 0 := duty_mem true m c 2 rfl
theorem mem_copy (c : Dev nD) : () ∈ (plan false m).duties (copyCell c) 0 := duty_mem false m c 3 rfl

/-- The four payloads. -/
theorem pay_bar (c : Dev nD) :
    (plan b m).payload (barCell c) 0 () = iprop((∃ f, oAt (peer c) f) ∗ reached EK (recvCell (peer c)) 0) := payload_cell b m c 0
theorem pay_send (c : Dev nD) : (plan b m).payload (sendCell c) 0 () = xAt c (blk m c) := payload_cell b m c 1
theorem pay_recv (c : Dev nD) : (plan b m).payload (recvCell c) 0 () = oAt c (blk m (peer c)) := payload_cell b m c 2
theorem pay_copy (c : Dev nD) : (plan b m).payload (copyCell c) 0 () = iprop(oAt c (blk m c) ∗ xAt c (blk m c)) := payload_cell b m c 3

/-- What the transfers leave is what is handed over. -/
theorem landed_peer (c : Dev nD) (f : FVec F S1x4096x2048 .f32) :
    (oM.view.loc (peer c : Thread nD τ) ↦[oM.view.set]{fullShare} (oM.view.write (Elt F) f (xM.view.read (Elt F) (blk m c)) Finset.univ) : sProp 𝕄)
      ⊢ (plan b m).payload (recvCell (peer c)) 0 () := by
  rw [pay_recv, peer_peer, copied, oAt_view]
theorem landed_own (c : Dev nD) (f : FVec F S1x4096x2048 .f32) :
    iprop((oM.view.loc (c : Thread nD τ) ↦[oM.view.set]{fullShare} (oM.view.write (Elt F) f (xM.view.read (Elt F) (blk m c)) Finset.univ))
        ∗ (xM.view.loc (c : Thread nD τ) ↦[xM.view.set]{fullShare} (blk m c)))
      ⊢ (plan b m).payload (copyCell c) 0 () := by
  rw [pay_copy, copied, oAt_view, xAt_view]
theorem sent_back (c : Dev nD) :
    (xM.view.loc (c : Thread nD τ) ↦[xM.view.set]{fullShare} (blk m c) : sProp 𝕄) ⊢ (plan b m).payload (sendCell c) 0 () := by
  rw [pay_send, xAt_view]

theorem hand_bar (c : Dev nD) : hand m c 0 = iprop((∃ f, oAt (peer c) f) ∗ reached EK (recvCell (peer c)) 0) := rfl
theorem hand_send (c : Dev nD) : hand m c 1 = xAt c (blk m c) := rfl
theorem hand_recv (c : Dev nD) : hand m c 2 = oAt c (blk m (peer c)) := rfl
theorem hand_copy (c : Dev nD) : hand m c 3 = iprop(oAt c (blk m c) ∗ xAt c (blk m c)) := rfl
/-- A copy of a block adds `N`. -/
theorem counted (s : DmaSem sig) : oM.view.amount (.dma s) = N := rfl

section Steps
variable (K : Dev nD × Fin 4 → ℕ)

/-- A used cell of a device's own, waited for: what is handed over there comes with it. -/
theorem wait_cell (c : Dev nD) (i : Fin 4) (hi : live b i = true) (n : ℕ) (hn : n = units i)
    {α : Type} {Q : α → sProp 𝕄} {k : PUnit → Prog (TpuEff nD τ sig (Elt F) Λ₀ .tc) α} (O : CellTallies nD τ sig Unit) (W : Waits sig Unit)
    {e : TpuEff nD τ sig (Elt F) Λ₀ .tc PUnit}
    (he : ∀ K' : PUnit → sProp 𝕄, wpE (defs₀ (F := F)) 𝒱₀ (c : Thread nD τ) none Set.univ e K'
      = waitSpec (c : Thread nD τ) Set.univ (ksem i) n K') :
    iprop(records b m K ∗ cred (tallyAt (cell (c, i)) () n) ∗ owes (c : Thread nD τ) O W ∗ MayWait (c : Thread nD τ) (ksem i) () O
        ∗ atPos EK (cell (c, i)) 0 ∅ 0)
      ⊢ iprop(((owes (c : Thread nD τ) O (insert (ksem i, ()) W) ∗ atPos EK (cell (c, i)) 1 ∅ 0 ∗ hand m c i)
            -∗ wp frame (wpE (defs₀ (F := F)) 𝒱₀ (c : Thread nD τ) none) Set.univ (k ⟨⟩) Q)
          -∗ wp frame (wpE (defs₀ (F := F)) 𝒱₀ (c : Thread nD τ) none) Set.univ (.op e k) Q) := by
  subst hn
  iintro ⟨#HR, Hc, HO, Hw, Hat⟩ Hk
  iapply (Rounds.wp_wait_rest_token 𝒱₀ EK (plan b m) (c : Thread nD τ) none (κ := K (c, i)) he (Set.mem_univ _) () (O := O) (W := W)
      (R := 0) (m := 0) (T := ∅) (by rw [Nat.zero_add]; exact (expect_cell b m c i hi).symm)) $$ [Hc HO Hw Hat]
  · isplitr; · iapply (records_inv b m K (c, i)); iexact HR
    isplitl [Hc]; · iexact Hc
    isplitl [HO]; · iexact HO
    isplitl [Hw] <;> iassumption
  iintro ⟨HO, Hat, -, Hpay⟩
  ihave Hp := (Entails.of_eq (rest_cell b m c i hi)) $$ Hpay
  iapply Hk
  isplitl [HO]; · iexact HO
  isplitl [Hat] <;> iassumption

/-- A cell of a device's own closes, after its one round or, unused, before it. -/
theorem close_cell (c : Dev nD) (i : Fin 4) (r : ℕ) (hr : ∀ r', r ≤ r' → (plan b m).duties (cell (c, i)) r' = ∅) :
    iprop(records b m K ∗ atPos EK (cell (c, i)) r ∅ 0) ⊢ iprop(|={Set.univ}=> semVal (cell (c, i)) 0) := by
  iintro ⟨#HR, Hat⟩
  iapply (Rounds.cell_close EK (plan b m) (Set.mem_univ (K (c, i))) (fun h => h) (R := r) hr)
  isplitr; · iapply (records_inv b m K (c, i)); iexact HR
  iexact Hat

/-- The announcement to the partner: the result array is handed over with it. -/
theorem signal_peer (c n : Dev nD) (hn : n = peer c) (a : ℕ) (ha : a = 1)
    {α : Type} {Q : α → sProp 𝕄} {k : PUnit → Prog (TpuEff nD τ sig (Elt F) Λ₀ .tc) α} (W : Waits sig Unit) (f : FVec F S1x4096x2048 .f32) :
    iprop(records true m K ∗ owes (c : Thread nD τ) (owed true c) W ∗ dutyTok EK (barCell (peer c)) 0 () ∗ oAt c f)
      ⊢ iprop((owes (c : Thread nD τ) (tallyAt (recvCell (peer c)) () N) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS a) k) Q) := by
  subst hn; subst ha
  iintro ⟨#HR, HO, Ht, Ho⟩ Hk
  iapply (Rounds.wp_signal 𝒱₀ EK (plan true m) (c : Thread nD τ) none (dst := (peer c : Thread nD τ)) (κ := K (peer c, 0)) (r := 0) (d := ())
      (mem_bar m (peer c))
      (amount_bar true m (peer c)) () (tallyAt (recvCell (peer c)) () N) rfl) $$ [HO Ht Ho]
  · isplitr; · iapply (records_inv true m K (peer c, 0)); iexact HR
    isplitl [HO]; · iexact HO
    isplitl [Ht]; · iexact Ht
    isplitl [Ho]
    · rw [pay_bar, peer_peer]
      isplitl [Ho]; · iexists f; iexact Ho
      iapply (records_reached true m K (c, 2)); iexact HR
    iapply (records_reached true m K (peer c, 0)); iexact HR
  iexact Hk

/-- The remote copy onto the partner's result array. -/
theorem send_peer (c n : Dev nD) (hn : n = peer c)
    {α : Type} {Q : α → sProp 𝕄} {k : PUnit → Prog (TpuEff nD τ sig (Elt F) Λ₀ .tc) α}
    {hsc : (oM : Memref sig (Dev.tc n : Thread nD τ).2.kind .hbm S1x4096x2048 .f32).view.ref.isScScratch = false}
    {hsrc : xM.view.WordExact} {hdst : oM.view.WordExact}
    {hsem : DmaTarget.Typed .hbm (.dma recvS) (.remote (Dev.tc n : Thread nD τ) (oM : Memref sig (Dev.tc n : Thread nD τ).2.kind .hbm S1x4096x2048 .f32) (.dma sendS) hsc)}
    (W : Waits sig Unit) (f : FVec F S1x4096x2048 .f32) :
    iprop(records true m K ∗ xAt c (blk m c) ∗ oAt (peer c) f ∗ owes (c : Thread nD τ) (tallyAt (recvCell (peer c)) () N) W
        ∗ dutyTok EK (sendCell c) 0 () ∗ dutyTok EK (recvCell (peer c)) 0 ())
      ⊢ iprop(((cred (tallyAt (sendCell c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  iintro ⟨#HR, Hx, Ho, HO, Ht1, Ht2⟩ Hk
  ihave Hx := (Entails.of_eq (xAt_view c (blk m c))) $$ Hx
  ihave Ho := (Entails.of_eq (oAt_view (peer c) f)) $$ Ho
  have key := Rounds.wp_send_pointsTo (k := k) (Q := Q) (src := xM) (dst := oM) (c' := (peer c : Thread nD τ)) (sS := .dma sendS) (sem := .dma recvS)
    (hsc := hsc) (hsrc := hsrc) (hdst := hdst) (hsem := hsem) (defs := defs₀ (F := F)) (Γ := PendingWaitsCtx.empty) (Es := Set.univ)
    𝒱₀ EK (plan true m) (c : Thread nD τ) none (κ₁ := K (c, 1)) (κ₂ := K (peer c, 2)) (r₁ := 0) (r₂ := 0) (d₁ := ()) (d₂ := ())
    (fs := blk m c) (fd := f) (q := fullShare) (mem_send m c) (mem_recv m (peer c)) () () N (counted recvS) (amount_send true m c)
    (amount_recv true m (peer c)) (O₀ := tallyAt (recvCell (peer c)) () N) 0 (zero_add _).symm (W := W) (sent_back true m c) (landed_peer true m c f)
  iapply key $$ [Hx Ho HO Ht1 Ht2]
  · isplitr; · iapply (records_inv true m K (c, 1)); iexact HR
    isplitr; · iapply (records_inv true m K (peer c, 2)); iexact HR
    isplitl [Hx]; · iexact Hx
    isplitl [Ho]; · iexact Ho
    isplitl [HO]; · iexact HO
    isplitl [Ht1]; · iexact Ht1
    isplitr; · iapply (records_reached true m K (c, 1)); iexact HR
    isplitl [Ht2]; · iexact Ht2
    iapply (records_reached true m K (peer c, 2)); iexact HR
  iexact Hk

/-- The local copy onto the device's own result array. -/
theorem copy_own (c : Dev nD)
    {α : Type} {Q : α → sProp 𝕄} {k : PUnit → Prog (TpuEff nD τ sig (Elt F) Λ₀ .tc) α} {hsrc : xM.view.WordExact} {hdst : oM.view.WordExact}
    {hsem : DmaTarget.Typed (nD := nD) (τ := τ) (p := .tc) .hbm (.dma copyS) (.here oM)}
    (f : FVec F S1x4096x2048 .f32) :
    iprop(records false m K ∗ xAt c (blk m c) ∗ oAt c f ∗ dutyTok EK (copyCell c) 0 ())
      ⊢ iprop((cred (tallyAt (copyCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.here oM) (.dma copyS) hsrc hdst hsem) k) Q) := by
  iintro ⟨#HR, Hx, Ho, Ht⟩ Hk
  ihave Hx := (Entails.of_eq (xAt_view c (blk m c))) $$ Hx
  ihave Ho := (Entails.of_eq (oAt_view c f)) $$ Ho
  have key := Rounds.wp_copy_pointsTo (k := k) (Q := Q) (src := xM) (dst := oM) (sem := .dma copyS) (hsrc := hsrc) (hdst := hdst) (hsem := hsem)
    (defs := defs₀ (F := F)) (Γ := PendingWaitsCtx.empty) (Es := Set.univ) 𝒱₀ EK (plan false m) (c : Thread nD τ) none (κ := K (c, 3))
    (r := 0) (d := ()) (fs := blk m c) (fd := f) (q := fullShare) (mem_copy m c) () N (counted copyS) (amount_copy false m c) (landed_own false m c f)
  iapply key $$ [Hx Ho Ht]
  · isplitr; · iapply (records_inv false m K (c, 3)); iexact HR
    isplitl [Hx]; · iexact Hx
    isplitl [Ho]; · iexact Ho
    isplitl [Ht]; · iexact Ht
    iapply (records_reached false m K (c, 3)); iexact HR
  iexact Hk

end Steps

/-! ## The body -/

abbrev stg (c : Dev nD) (r : Ref sig .tc) (X : r.ty.Contents (Elt F)) : sProp 𝕄 :=
  iprop(∃ f : Buf (Elt F) (((c : Dev nD) : Thread nD τ).loc r), ⌜f = X⌝ ∗ (((c : Thread nD τ).loc r) ↦{fullShare} f))

abbrev t₀ : Fin cfg0.N := t0_0

def bodyPre (c : Dev nD) : sProp 𝕄 :=
  iprop(start b m c ∗ (dats b m 0 c).owesAt () t₀.castSucc ∗ (∃ d, stg c cc0_stg0_0 ((dats b m 0 c).before (0 : Fin 1) t₀ d)))
def bodyPost (c : Dev nD) : sProp 𝕄 :=
  iprop(finish b m c ∗ (dats b m 0 c).owesAt () t₀.succ ∗ stg c cc0_stg0_0 (staged m c))

set_option maxHeartbeats 1600000 in
/-- Under a table that keeps the rows: the local copy and its wait. -/
theorem sound_keep (h : Table false m) (c : Dev nD) (Kt : PUnit → sProp 𝕄) :
    iprop(bodyPre false m c ∗ (bodyPost false m c -∗ Kt ⟨⟩))
      ⊢ wp frame (wpE (defs₀ (F := F)) 𝒱₀ c none) Set.univ
          (cc0_body (Memref.whole cc0_stg0_0) (Memref.isWhole_whole _) (Memref.whole main_arg0) (Memref.isWhole_whole _)
            (Memref.whole main_v1) (Memref.isWhole_whole _) cc0_scratch0 cc0_scratch1 cc0_scratch2) Kt := by
  simp only [cc0_body_eq_skeleton]; unfold cc0_body_skel
  simp only [semSignalWord, semWaitWord, smemLoad, smemLoadElt, Prog.lift, Prog.bind_op, Prog.bind_ret, Prog.pure_eq_ret, wp_deviceId]
  unfold bodyPre start ghost mine
  rw [bigSep_four]
  iintro ⟨⟨⟨⟨%K, #HR, ⟨Ha0, -⟩, ⟨Ha1, -⟩, ⟨Ha2, -⟩, Ha3, Ht3⟩, -, #Hlev, Hx, %f, Ho⟩, HO, ⟨%d0, %g0, %hg0, Ht⟩⟩, Hk⟩
  have hx : g0 = staged m c := by rw [hg0]; unfold Dat.before; rw [if_pos (fetch0_0 t₀)]; rfl
  subst hx
  unfold Dat.owesAt Pipeline.owesWithin
  icases HO with ⟨%W, %hW, HO⟩
  rw [show (dats false m 0 c).owed t₀.castSucc = 0 from rfl]
  iapply (wp_load_rect 𝒱₀ (c : Thread nD τ) none Set.univ (m := tM) (r := entry c) (Finset.subset_univ _)) $$ Ht; iintro Ht
  rw [load_word h c]
  simp only [wp_assume_of _ _ _ _ (d := k0_chk1.dec _ _) (word_chk false c)]
  rw [if_pos ((word_first false c).symm ▸ rfl)]
  iapply (copy_own m K c f) $$ [Hx Ho Ht3]
  · isplitr; · iexact HR
    isplitl [Hx]; · iexact Hx
    isplitl [Ho]; · iexact Ho
    iexact Ht3
  iintro Hc
  iapply (wait_cell false m K c 3 rfl N (units_other _ (by decide)) 0 W (wpE_waitDma2_eq 𝒱₀ (c : Thread nD τ) none Set.univ)) $$ [Hc HO Ha3]
  · isplitr; · iexact HR
    isplitl [Hc]; · iexact Hc
    isplitl [HO]; · iexact HO
    isplitr; · rw [MayWait_zero]; iempintro
    iexact Ha3
  iintro ⟨HO, Ha3, Hp⟩
  ihave Hp := (Entails.of_eq (hand_copy m c)) $$ Hp
  icases Hp with ⟨Ho, Hx⟩
  rw [dif_neg (by rw [word_second]; exact fun h => Bool.noConfusion h)]
  imod (close_cell false m K c 0 0 (fun r _ => duties_dead false m c 0 rfl r)) $$ [Ha0] with Hz0
  · isplitr; · iexact HR
    iexact Ha0
  imod (close_cell false m K c 1 0 (fun r _ => duties_dead false m c 1 rfl r)) $$ [Ha1] with Hz1
  · isplitr; · iexact HR
    iexact Ha1
  imod (close_cell false m K c 2 0 (fun r _ => duties_dead false m c 2 rfl r)) $$ [Ha2] with Hz2
  · isplitr; · iexact HR
    iexact Ha2
  imod (close_cell false m K c 3 1 (duties_later false m (cell (c, 3)))) $$ [Ha3] with Hz3
  · isplitr; · iexact HR
    iexact Ha3
  rw [wp_ret]; imodintro
  iapply Hk
  unfold bodyPost finish Dat.owesAt Pipeline.owesWithin
  rw [show (dats false m 0 c).owed t₀.succ = 0 from rfl, bigSep_four]
  isplitl [Hx Ho Hz0 Hz1 Hz2 Hz3]
  · isplitl [Hx]; · iexact Hx
    isplitl [Ho]; · iexact Ho
    isplitl [Hz0]; · iexact Hz0
    isplitl [Hz1]; · iexact Hz1
    isplitl [Hz2] <;> iassumption
  isplitl [HO]
  · iexists (insert (SemLoc.dma copyS, ()) W)
    isplitr; · ipureintro; exact fun _ _ => Or.inl trivial
    iexact HO
  iexists _; isplitr; · (ipureintro; rfl)
  iexact Ht

theorem cred_due (c : Dev nD) : (cred (due true c) : sProp 𝕄) = iprop(cred (tallyAt (recvCell c) () N) ∗ cred (tallyAt (barCell c) () 1)) := by
  unfold due; rw [if_pos rfl]; exact BI.Entails.antisymm (cred_add _ _).1 (cred_add _ _).2

set_option maxHeartbeats 1600000 in
/-- Under a table that exchanges the rows: announcement, handshake, remote copy and its two waits. -/
theorem sound_swap (h : Table true m) (c : Dev nD) (Kt : PUnit → sProp 𝕄) :
    iprop(bodyPre true m c ∗ (bodyPost true m c -∗ Kt ⟨⟩))
      ⊢ wp frame (wpE (defs₀ (F := F)) 𝒱₀ c none) Set.univ
          (cc0_body (Memref.whole cc0_stg0_0) (Memref.isWhole_whole _) (Memref.whole main_arg0) (Memref.isWhole_whole _)
            (Memref.whole main_v1) (Memref.isWhole_whole _) cc0_scratch0 cc0_scratch1 cc0_scratch2) Kt := by
  simp only [cc0_body_eq_skeleton]; unfold cc0_body_skel
  simp only [semSignalWord, semWaitWord, smemLoad, smemLoadElt, Prog.lift, Prog.bind_op, Prog.bind_ret, Prog.pure_eq_ret, wp_deviceId]
  unfold bodyPre start ghost mine
  rw [bigSep_four]
  iintro ⟨⟨⟨⟨%K, #HR, ⟨Ha0, Ht0⟩, ⟨Ha1, Ht1⟩, ⟨Ha2, Ht2⟩, Ha3, -⟩, Hc, #Hlev, Hx, %f, Ho⟩, HO, ⟨%d0, %g0, %hg0, Ht⟩⟩, Hk⟩
  have hx : g0 = staged m c := by rw [hg0]; unfold Dat.before; rw [if_pos (fetch0_0 t₀)]; rfl
  subst hx
  unfold Dat.owesAt Pipeline.owesWithin
  icases HO with ⟨%W, %hW, HO⟩
  rw [show (dats true m 0 c).owed t₀.castSucc = owed true c from rfl]
  ihave Hc := (Entails.of_eq (cred_due c)) $$ Hc
  icases Hc with ⟨Hc2, Hc0⟩
  iapply (wp_load_rect 𝒱₀ (c : Thread nD τ) none Set.univ (m := tM) (r := entry c) (Finset.subset_univ _)) $$ Ht; iintro Ht
  rw [load_word h c]
  simp only [wp_assume_of _ _ _ _ (d := k0_chk1.dec _ _) (word_chk true c)]
  rw [if_neg (by rw [word_first]; exact fun h => Bool.noConfusion h)]
  rw [dif_pos ((word_second true c).symm ▸ rfl)]
  iapply (signal_peer m K c _ (Fin.ext (word_dev1 c)) _ rfl W f) $$ [HO Ht0 Ho]
  · isplitr; · iexact HR
    isplitl [HO]; · iexact HO
    isplitl [Ht0]; · iexact Ht0
    iexact Ho
  iintro HO
  iapply (wait_cell true m K c 0 rfl 1 rfl (tallyAt (recvCell (peer c)) () N) W (wpE_semWait_eq 𝒱₀ (c : Thread nD τ) none Set.univ)) $$ [Hc0 HO Ha0]
  · isplitr; · iexact HR
    isplitl [Hc0]; · iexact Hc0
    isplitl [HO]; · iexact HO
    isplitr; · iapply (may_wait_bar c); iexact Hlev
    iexact Ha0
  iintro ⟨HO, Ha0, Hp⟩
  ihave Hp := (Entails.of_eq (hand_bar m c)) $$ Hp
  icases Hp with ⟨⟨%f', Ho⟩, -⟩
  iapply (send_peer m K c _ (Fin.ext (word_dev2 c)) (insert (SemLoc.reg barS, ()) W) f') $$ [Hx Ho HO Ht1 Ht2]
  · isplitr; · iexact HR
    isplitl [Hx]; · iexact Hx
    isplitl [Ho]; · iexact Ho
    isplitl [HO]; · iexact HO
    isplitl [Ht1]; · iexact Ht1
    iexact Ht2
  iintro ⟨Hc1, HO⟩
  iapply (wait_cell true m K c 1 rfl N (units_other _ (by decide)) 0 (insert (SemLoc.reg barS, ()) W) (wpE_waitDma2_eq (dst := xM) 𝒱₀ (c : Thread nD τ) none Set.univ)) $$ [Hc1 HO Ha1]
  · isplitr; · iexact HR
    isplitl [Hc1]; · iexact Hc1
    isplitl [HO]; · iexact HO
    isplitr; · rw [MayWait_zero]; iempintro
    iexact Ha1
  iintro ⟨HO, Ha1, Hp⟩
  ihave Hx := (Entails.of_eq (hand_send m c)) $$ Hp
  iapply (wait_cell true m K c 2 rfl N (units_other _ (by decide)) 0 (insert (SemLoc.dma sendS, ()) (insert (SemLoc.reg barS, ()) W))
      (wpE_waitDma2_eq 𝒱₀ (c : Thread nD τ) none Set.univ)) $$ [Hc2 HO Ha2]
  · isplitr; · iexact HR
    isplitl [Hc2]; · iexact Hc2
    isplitl [HO]; · iexact HO
    isplitr; · rw [MayWait_zero]; iempintro
    iexact Ha2
  iintro ⟨HO, Ha2, Hp⟩
  ihave Ho := (Entails.of_eq ((hand_recv m c).trans (show oAt c (blk m (peer c)) = oAt c (blk m (source true c)) from rfl))) $$ Hp
  imod (close_cell true m K c 0 1 (duties_later true m (cell (c, 0)))) $$ [Ha0] with Hz0
  · isplitr; · iexact HR
    iexact Ha0
  imod (close_cell true m K c 1 1 (duties_later true m (cell (c, 1)))) $$ [Ha1] with Hz1
  · isplitr; · iexact HR
    iexact Ha1
  imod (close_cell true m K c 2 1 (duties_later true m (cell (c, 2)))) $$ [Ha2] with Hz2
  · isplitr; · iexact HR
    iexact Ha2
  imod (close_cell true m K c 3 0 (fun r _ => duties_dead true m c 3 rfl r)) $$ [Ha3] with Hz3
  · isplitr; · iexact HR
    iexact Ha3
  rw [wp_ret]; imodintro
  iapply Hk
  unfold bodyPost finish Dat.owesAt Pipeline.owesWithin
  rw [show (dats true m 0 c).owed t₀.succ = 0 from rfl, bigSep_four]
  isplitl [Hx Ho Hz0 Hz1 Hz2 Hz3]
  · isplitl [Hx]; · iexact Hx
    isplitl [Ho]; · iexact Ho
    isplitl [Hz0]; · iexact Hz0
    isplitl [Hz1]; · iexact Hz1
    isplitl [Hz2] <;> iassumption
  isplitl [HO]
  · iexists (insert (SemLoc.dma recvS, ()) (insert (SemLoc.dma sendS, ()) (insert (SemLoc.reg barS, ()) W)))
    isplitr; · ipureintro; exact fun _ _ => Or.inl trivial
    iexact HO
  iexists _; isplitr; · (ipureintro; rfl)
  iexact Ht

/-- The body obligation on device `c`. -/
theorem body_obligation (h : Table b m) (c : Dev nD) : BodyObligation (dats b m 0 c) (defs₀ (F := F)) 𝒱₀ () Set.univ := fun t => by
  rw [fin_N0 t]
  rw [Gen.bigSep_W0, Gen.bigSep_W0]
  simp only [owns_whole_eq]
  show bodyPre b m c ⊢ wp frame (wpE (defs₀ (F := F)) 𝒱₀ c none) Set.univ
    (cc0_body (Memref.whole cc0_stg0_0) (Memref.isWhole_whole _) (Memref.whole main_arg0) (Memref.isWhole_whole _)
      (Memref.whole main_v1) (Memref.isWhole_whole _) cc0_scratch0 cc0_scratch1 cc0_scratch2) (fun _ => bodyPost b m c)
  iintro H
  cases b with
  | false =>
    iapply (sound_keep m h c fun _ => bodyPost false m c)
    isplitl [H]; · iexact H
    iintro H; iexact H
  | true =>
    iapply (sound_swap m h c fun _ => bodyPost true m c)
    isplitl [H]; · iexact H
    iintro H; iexact H

end Cert.Permute

end
-- ==== Proof.Run.lean ====
/-
The permuting kernel's run: the launch, from the cells' ghost state to the final memories.
-/
module

public import proofs.«01_k».proof.Proof.Body

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (b : Bool) (m : (ℓ : Loc nD τ sig) → Buf (Elt F) ℓ)

/-! ## The launch's ghost state -/

/-- What the launch deals out at device `c`'s cells: their round states, positions, round marks, and one token each. -/
def G (c : Dev nD) : sProp 𝕄 :=
  iprop((bigSep Finset.univ fun k : Fin 4 => roundState EK (plan b m) (cell (c, k)) 0)
    ∗ (bigSep Finset.univ fun k : Fin 4 => iprop(atPos EK (cell (c, k)) 0 ∅ 0))
    ∗ (bigSep Finset.univ fun k : Fin 4 => iprop(reached EK (cell (c, k)) 0))
    ∗ (bigSep Finset.univ fun k : Fin 4 => iprop(dutyTok EK (cell (c, k)) 0 ())))

def allCells : Finset (GSem nD τ sig) := Finset.univ.map ⟨cell, cell_inj⟩
def allToks : Finset (GSem nD τ sig × ℕ × Unit) :=
  Finset.univ.map ⟨fun x : Dev nD × Fin 4 => (cell x, 0, ()), fun x y h => cell_inj (congrArg Prod.fst h)⟩

def u₀ : UU := (initOf (Pipeline.cells cfgs cellOf_inj) (Pipeline.launchToks cfgs cellOf_inj), initOf allCells allToks)

theorem fund_cells : BI.own (EK (initOf allCells allToks)) ⊢ (|==> bigSep Finset.univ (G b m) : sProp 𝕄) := by
  have hC (Φ : GSem nD τ sig → sProp 𝕄) :
      bigSep allCells Φ = bigSep Finset.univ fun c : Dev nD => bigSep Finset.univ fun k : Fin 4 => Φ (cell (c, k)) := by
    unfold allCells; rw [bigSep_map, bigSep_univ_prod]; rfl
  have hT : bigSep allToks (fun x => (dutyTok EK x.1 x.2.1 x.2.2 : sProp 𝕄))
      = bigSep Finset.univ fun c : Dev nD => bigSep Finset.univ fun k : Fin 4 => dutyTok EK (cell (c, k)) 0 () := by
    unfold allToks; rw [bigSep_map, bigSep_univ_prod]; rfl
  iintro HX
  imod (Rounds.fund EK (plan b m) allCells allToks) $$ HX with ⟨Hst, Hr, Hat, Htok⟩
  imodintro
  ihave Hst := (Entails.of_eq (hC fun g => roundState EK (plan b m) g 0)) $$ Hst
  ihave Hat := (Entails.of_eq (hC fun g => atPos EK g 0 ∅ 0)) $$ Hat
  ihave Hr := (Entails.of_eq (hC fun g => reached EK g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- The three completion semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (copyCell c) 0) := by
  rw [Pipeline.ownSems0_eq_of_list c osem [0, 1, 2] (by decide) (by decide)]; rfl
/-- the barrier semaphore is the only other one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the four cells. -/
theorem four_sems (c : Dev nD) :
    (bigSep Finset.univ fun k : Fin 4 => (semVal (cell (c, k)) 0 : sProp 𝕄))
      = iprop(semVal (barCell c) 0 ∗ semVal (sendCell c) 0 ∗ semVal (recvCell c) 0 ∗ semVal (copyCell c) 0) := bigSep_four _

/-- One device's cells get their invariants. -/
theorem alloc_device (c : Dev nD) :
    iprop(Pipeline.ownSems0 (Ix := Unit) (Name := ℕ) (U := UU) (Lvl := ℕ) (Val := Elt F) (τ := τ) osem c ∗ unscopedSems0 c ∗ G b m c)
      ⊢ |={Set.univ}=> iprop((bigSep Finset.univ fun k : Fin 4 => iprop(∃ κ : ℕ, cellInv EK (plan b m) κ (cell (c, k))))
          ∗ (bigSep Finset.univ fun k : Fin 4 => iprop(atPos EK (cell (c, k)) 0 ∅ 0))
          ∗ (bigSep Finset.univ fun k : Fin 4 => iprop(reached EK (cell (c, k)) 0))
          ∗ (bigSep Finset.univ fun k : Fin 4 => iprop(dutyTok EK (cell (c, k)) 0 ()))) := by
  unfold G
  rw [ownSems0_eq, unscopedSems0_eq]
  iintro ⟨⟨HS, HV, HC⟩, HB, Hst, Hrest⟩
  ihave Hv := (Entails.of_eq (four_sems (F := F) c).symm) $$ [HB HS HV HC]
  · isplitl [HB]; · iexact HB
    isplitl [HS]; · iexact HS
    isplitl [HV] <;> iassumption
  imod (show iprop((bigSep Finset.univ fun k : Fin 4 => semVal (cell (c, k)) 0) ∗ bigSep Finset.univ fun k : Fin 4 => roundState EK (plan b m) (cell (c, k)) 0)
      ⊢ (|={Set.univ}=> bigSep Finset.univ fun k : Fin 4 => iprop(∃ κ : ℕ, cellInv EK (plan b m) κ (cell (c, k))) : sProp 𝕄) from by
        rw [← bigSep_sep']
        exact (bigSep_mono fun k _ => (Rounds.body_intro EK (plan b m) (cell (c, k))).trans inv_alloc).trans (bigSep_fupd _ _)) $$ [Hv Hst] with Hinv
  · isplitl [Hv] <;> iassumption
  imodintro
  isplitl [Hinv]; · iexact Hinv
  iexact Hrest

/-- The tokens go to the devices that pay. -/
theorem deal_toks :
    (bigSep Finset.univ fun c : Dev nD => bigSep Finset.univ fun k : Fin 4 => (dutyTok EK (cell (c, k)) 0 () : sProp 𝕄))
      = bigSep Finset.univ fun c : Dev nD => bigSep Finset.univ fun k : Fin 4 => dutyTok EK (cell (payee (c, k))) 0 () := by
  rw [← bigSep_univ_prod (fun x : Dev nD × Fin 4 => (dutyTok EK (cell x) 0 () : sProp 𝕄)),
    ← bigSep_univ_prod (fun x : Dev nD × Fin 4 => (dutyTok EK (cell (payee x)) 0 () : sProp 𝕄)),
    bigSep_univ_equiv payees (fun x : Dev nD × Fin 4 => (dutyTok EK (cell x) 0 () : sProp 𝕄))]
  rfl

theorem ghost_intro (K : Dev nD × Fin 4 → ℕ) (c : Dev nD) : iprop(records b m K ∗ mine c) ⊢ ghost b m c := by
  unfold ghost
  iintro H
  iexists K
  iexact H

theorem share_records (K : Dev nD × Fin 4 → ℕ) :
    iprop(records b m K ∗ bigSep Finset.univ fun c : Dev nD => (mine c : sProp 𝕄)) ⊢ bigSep Finset.univ (ghost b m) := by
  refine (sep_mono_left (BI.bigSep_of_persistent (Finset.univ : Finset (Dev nD)) (records b m K))).trans ?_
  rw [← bigSep_sep']
  exact bigSep_mono fun c _ => ghost_intro b m K c

theorem regroup :
    (bigSep Finset.univ fun c : Dev nD => iprop((bigSep Finset.univ fun k : Fin 4 => iprop(∃ κ : ℕ, cellInv EK (plan b m) κ (cell (c, k))))
          ∗ (bigSep Finset.univ fun k : Fin 4 => iprop(atPos EK (cell (c, k)) 0 ∅ 0))
          ∗ (bigSep Finset.univ fun k : Fin 4 => iprop(reached EK (cell (c, k)) 0))
          ∗ (bigSep Finset.univ fun k : Fin 4 => iprop(dutyTok EK (cell (c, k)) 0 ()))) : sProp 𝕄)
      ⊢ bigSep Finset.univ (ghost b m) := by
  rw [bigSep_sep', bigSep_sep', bigSep_sep', deal_toks,
    ← bigSep_univ_prod (fun x : Dev nD × Fin 4 => iprop(∃ κ : ℕ, cellInv EK (plan b m) κ (cell x))),
    ← bigSep_univ_prod (fun x : Dev nD × Fin 4 => (reached EK (cell x) 0 : sProp 𝕄))]
  iintro ⟨HI, Hat, #HR, Htok⟩
  ihave HK := (BI.bigSep_exists_pi Finset.univ (fun (x : Dev nD × Fin 4) (κ : ℕ) => (cellInv EK (plan b m) κ (cell x) : sProp 𝕄))) $$ HI
  icases HK with ⟨%K, #HI⟩
  iapply (share_records b m K)
  isplitr
  · unfold records; isplitl; · iexact HI
    iexact HR
  unfold mine
  simp only [bigSep_sep']
  isplitl [Hat] <;> iassumption

/-- All devices' semaphores become the cells of the schedule. -/
theorem glob : (bigSep Finset.univ fun c => iprop(Pipeline.ownSems0 (Ix := Unit) (Name := ℕ) (U := UU) (Lvl := ℕ) (Val := Elt F) (τ := τ) osem c
      ∗ unscopedSems0 c ∗ G b m c) : sProp 𝕄)
    ⊢ |={Set.univ}=> bigSep Finset.univ (ghost b m) :=
  ((bigSep_mono fun c _ => alloc_device b m c).trans (bigSep_fupd _ _)).trans (BI.fupd_mono (regroup b m))

/-! ## The launch theorem's conditions -/

variable (ρ : Dev nD → PrngReg)

/-- What a device starts the launch with becomes what its body starts from. -/
theorem start_intro (c : Dev nD) :
    iprop(Pipeline.unscopedRestP Pipeline.Prefetch.none cfg0.spec c (fun r => m ((c : Thread nD τ).loc r)) ∗ levAts L lv
        ∗ Pipeline.launchCred (owed b) c ∗ prngReg c (ρ c) ∗ ghost b m c)
      ⊢ |={Set.univ}=> iprop(start b m c ∗ emp) := by
  rw [Pipeline.unscopedRestP_none, unscopedRest0_eq, launch_credit]
  iintro ⟨⟨Hx, Ho⟩, Hlev, Hcr, -, HG⟩
  imodintro
  unfold start
  isplitl
  · isplitl [HG]; · iexact HG
    isplitl [Hcr]; · iexact Hcr
    isplitl [Hlev]; · iexact Hlev
    isplitl [Hx]; · unfold xAt blk; iexact Hx
    iexists (m ((c : Thread nD τ).loc main_v1)); unfold oAt; iexact Ho
  · iempintro

theorem phi_first (c : Dev nD) :
    iprop(start b m c ∗ Pipeline.prefHeld Pipeline.Prefetch.none c (fun _ => fullShare.right) (fun k => k.elim0) ∗ Pipeline.scopedRest cfg0.spec c)
      ⊢ (dats b m 0 c).Φ 0 := by
  rw [show (dats b m 0 c).Φ 0 = start b m c from rfl]
  iintro ⟨Hs, -⟩
  iexact Hs

/-- What a device is left with besides its own semaphores. -/
def left (c : Dev nD) : sProp 𝕄 := iprop(unscopedSems0 c ∗ xAt c (blk m c) ∗ oAt c (blk m (source b c)))

theorem phi_last (c : Dev nD) :
    (dats b m 0 c).Φ (Fin.last cfg0.N) ⊢ iprop(left b m c ∗ Pipeline.ownSems0 osem c ∗ Pipeline.scopedRest cfg0.spec c) := by
  rw [show (dats b m 0 c).Φ (Fin.last cfg0.N) = finish b m c from rfl, scopedRest0_eq, ownSems0_eq]
  unfold finish left
  rw [four_sems, unscopedSems0_eq]
  iintro ⟨Hx, Ho, HB, HS, HV, HC⟩
  isplitl [HB Hx Ho]
  · isplitl [HB]; · iexact HB
    isplitl [Hx] <;> iassumption
  isplitl [HS HV HC]
  · isplitl [HS]; · iexact HS
    isplitl [HV] <;> iassumption
  iempintro

theorem share_eq (c : Dev nD) (w : Fin cfg0.W) : (dats b m 0 c).share w = fullShare := by unfold Dat.share; split <;> rfl

theorem ownSemFacts : Pipeline.OwnSemFacts cfg0.spec osem := by decide

theorem waits (c : Dev nD) : (levAts L lv : sProp 𝕄) ⊢ Pipeline.cellsWaits cfgs (dats b m) () 0 c :=
  Pipeline.cellsWaits_intro cfgs (dats b m) () 0 c fun w s t => by
    rcases t with ⟨_ | _, ht⟩
    · exact may_wait_low b c _ (by fin_cases w; fin_cases s; rfl)
    · show _ ⊢ MayWait _ _ _ 0
      rw [MayWait_zero]; iintro -; iempintro

/-- What a final memory shows of device `c`. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = blk m (source b c)

theorem read_left (c : Dev nD) (s' : Phys nD τ sig (Elt F)) :
    iprop(left b m c ∗ emp ∗ SI s') ⊢ (|={Set.univ}=> iprop(⌜Seen b m c s'.mem⌝ ∗ SI s') : sProp 𝕄) := by
  unfold left xAt oAt
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hz, HSI⟩
  · isplitl [Hu] <;> iassumption
  imodintro
  isplitr; · ipureintro; exact ⟨hz, Buf.eq_of_forall_mem_univ hx, Buf.eq_of_forall_mem_univ ho⟩
  iexact HSI

/-! ## The run -/

/-- The result array of every device holds the block of the device the table names, the arguments are unchanged. -/
def After (s : MemSt nD τ sig (Elt F)) : Prop :=
  ∀ c : Dev nD, s.mem ((c : Thread nD τ).loc main_v1) = blk m (source b c)
    ∧ s.mem ((c : Thread nD τ).loc main_arg0) = m ((c : Thread nD τ).loc main_arg0)
    ∧ s.mem ((c : Thread nD τ).loc main_arg1) = m ((c : Thread nD τ).loc main_arg1)

set_option maxRecDepth 8000 in
theorem run_main (h : Table b m) :
    θ_run defs (onTc (τ := τ) (main (F := F))) ⟨m, fun _ => 0, ρ⟩ (fun r => After b m r.2 ∧ r.2.sem = fun _ => 0) :=
  Pipeline.θ_run_region_owing_glob_pf (fun p => (cfgs p).toPCfg) (fun p => (cfgs p).toPCfg_adm) (dats b m) () cellOf_inj (0 : Fin 1)
    winFacts0.to₀ ownSemFacts (Pipeline.PreFacts.none _) EP defs₀ 𝒱₀ m ρ main
    (hmain := fun _ => rfl)
    (hbody := body_obligation b m h) (hne := fun w => by fin_cases w; exact Nat.succ_pos _) (harr := arr_whole0) (hstage := stage_whole0)
    (hshare := share_eq b m) (hdistinct := winFacts0.arr_inj)
    (O₀ := owed b) (howed₀ := fun _ => rfl) (howedN := fun _ => rfl)
    (L := L) (lv := lv) (hL := L_other) (hwaits := waits b m)
    (G := G b m) (G' := ghost b m) (u₀ := u₀)
    (hu₀ := by
      unfold u₀
      iintro Hu
      ihave H := (ownU_pair _ _) $$ Hu
      icases H with ⟨HP, HX⟩
      imod (fund_cells b m) $$ HX with HG
      imodintro
      isplitl [HP] <;> iassumption)
    (hglob := glob b m)
    (hA := fun _ _ => rfl) (hpf := fun _ k => k.elim0)
    (X := start b m) (Y := left b m) (Z := fun _ => iprop(emp))
    (hX := start_intro b m ρ) (hin := phi_first b m) (hout := phi_last b m)
    (QY := Seen b m) (hY := read_left b m)
    (hQ := fun _ h hs => ⟨fun c => ⟨(h c).2.2.2.2, (h c).2.2.2.1, ((h c).1 0).trans ((dats (F := F) b m 0 c).arrAt_in (0 : Fin 1) rfl _)⟩,
      sem_eq_zero hs fun c => (h c).2.2.1⟩)

end Cert.Permute

end
-- ==== Proof.Ref.lean ====
/-
The reference's value and the preconditions: which table of peers a precondition fixes, what the reference
leaves in its result at that table, and the block of it each device is due.
-/
module

public import proofs.«01_k».proof.Proof.Gen.ReferenceIdeal.Run
public import proofs.«01_k».proof.Proof.Gen.Pre_exchange_Kernel
public import proofs.«01_k».proof.Proof.Gen.Pre_identity_Kernel
public import proofs.«01_k».proof.Proof.Run
public import Idealize.ShloMosaic.Lib.Layout

@[expose] public section

noncomputable section

namespace Cert.Permute

open Idealize.ShloMosaic Idealize.ShloMosaic.TcCoe Idealize.SL.Sem

/-! ## The table a precondition fixes -/

/-- The table of peers: each place names the other one when `b`, itself otherwise. -/
def table (b : Bool) : IVec ⟨1, ![2]⟩ 32 := fun i => BitVec.ofNat 32 (if b then 1 - (i 0).val else (i 0).val)

/-- Two words found equal to `u` and `v`, the one-bit answers joined. -/
theorem both_eq (u v x y : BitVec 32) (h : IntOp.andi (IntOp.cmpi .eq x u) (IntOp.cmpi .eq y v) = 1#1) : x = u ∧ y = v := by
  have e : ∀ p q : Bool, IntOp.andi (BitVec.ofBool p) (BitVec.ofBool q) = 1#1 → p = true ∧ q = true := by decide
  obtain ⟨h1, h2⟩ := e _ _ h
  exact ⟨eq_of_beq h1, eq_of_beq h2⟩

/-- Place `k` of a table of two. -/
def place (k : Fin 2) : (⟨1, ![2]⟩ : Shape).Idx := fun | ⟨0, _⟩ => k

theorem place_eta (i : (⟨1, ![2]⟩ : Shape).Idx) : i = place (i 0) := by
  funext a
  match a with
  | ⟨0, _⟩ => rfl

/-- A table of two words is known from its two places. -/
theorem table_ext {b : Bool} {t : IVec ⟨1, ![2]⟩ 32} (h0 : t (place 0) = BitVec.ofNat 32 (if b then 1 else 0))
    (h1 : t (place 1) = BitVec.ofNat 32 (if b then 0 else 1)) : t = table b := by
  funext i
  have h2 : (i 0).val < 2 := (i 0).isLt
  obtain h | h : (i 0).val = 0 ∨ (i 0).val = 1 := by omega
  · have e : i = place 0 := (place_eta i).trans (congrArg place (Fin.ext h))
    rw [e, h0]; cases b <;> rfl
  · have e : i = place 1 := (place_eta i).trans (congrArg place (Fin.ext h))
    rw [e, h1]; cases b <;> rfl

variable {F : FTy → Type} [FloatOps F]

theorem exchange_table (x : FVec F ⟨3, ![1, 4096, 2048]⟩ .f32) (t : IVec ⟨1, ![2]⟩ 32)
    (h : Cert.Pre_exchange_Kernel.fn (F := F) x t = fun _ => 1#1) : t = table true := by
  obtain ⟨h0, h1⟩ := both_eq 1#32 0#32 _ _ (congrFun h (fun a => a.elim0))
  refine table_ext ((congrArg t (funext fun a => ?_)).trans h0) ((congrArg t (funext fun a => ?_)).trans h1) <;>
    · fin_cases a; rfl

theorem identity_table (x : FVec F ⟨3, ![1, 4096, 2048]⟩ .f32) (t : IVec ⟨1, ![2]⟩ 32)
    (h : Cert.Pre_identity_Kernel.fn (F := F) x t = fun _ => 1#1) : t = table false := by
  obtain ⟨h0, h1⟩ := both_eq 0#32 1#32 _ _ (congrFun h (fun a => a.elim0))
  refine table_ext ((congrArg t (funext fun a => ?_)).trans h0) ((congrArg t (funext fun a => ?_)).trans h1) <;>
    · fin_cases a; rfl

/-- Every device holding the table holds its own word of it. -/
theorem table_words {b : Bool} {m : (ℓ : Loc Cert.KernelIdeal.nD Cert.KernelIdeal.τ Cert.KernelIdeal.sig) → Buf (Elt F) ℓ}
    (h : ∀ c : Dev Cert.KernelIdeal.nD, m ((c.tc : Thread Cert.KernelIdeal.nD Cert.KernelIdeal.τ).loc Cert.KernelIdeal.main_arg1) = table b) : Table b m := by
  intro c
  exact (congrFun (h c) (slot c)).trans rfl

/-! ## What the reference leaves -/

open Cert.ReferenceIdeal Cert.ReferenceIdeal.Gen

/-- The place along the first axis an entry is read from. -/
def from0 (b : Bool) (k : Fin 2) : Fin 2 := ⟨if b then 1 - k.val else k.val, by have := k.isLt; split <;> omega⟩

/-- The array with its two leading blocks exchanged when `b`, as it is otherwise. -/
def permuted (b : Bool) {α : Type} (x : S2x4096x2048.Idx → α) : S2x4096x2048.Idx → α :=
  fun j => x (fun | ⟨0, _⟩ => from0 b (j 0) | ⟨1, _⟩ => j 1 | ⟨2, _⟩ => j 2)

/-- The positions sorting the table: the table is its own inverse. -/
theorem sorted_table (b : Bool) : (Host.sort2 S2 0 comparator_i32_i32_d0 (table b) (iotaInDim S2 32 0)).2 = table b := by
  funext i
  have key : ∀ k : Fin 2, (Host.sort2 S2 0 comparator_i32_i32_d0 (table b) (iotaInDim S2 32 0)).2 (place k) = table b (place k) := by
    intro k; cases b <;> (fin_cases k <;> decide)
  rw [place_eta i]; exact key (i 0)

/-- A table stood up as a column. -/
theorem column_at (v : IVec S2 32) (k : Fin 2) (j : S2x1.Idx) (hj : j 0 = k) :
    broadcastInDim S2x1 ![0] bcast_S2_S2x1_0 v j = v (place k) := by
  unfold broadcastInDim
  refine congrArg v (funext fun a => Fin.ext ?_)
  match a with
  | ⟨0, _⟩ => exact congrArg Fin.val hj

/-- The start indices: the positions, a negative one counted from the end (none is). -/
theorem starts_at (b : Bool) (k : Fin 2) (j : S2x1.Idx) (hj : j 0 = k) :
    broadcastInDim S2x1 ![0] bcast_S2_S2x1_0 (select (cmpi .slt (table b) (broadcastInDim S2 ![] bcast_S_S2 (constantI S_ 32 0#32)))
      (addi (table b) (broadcastInDim S2 ![] bcast_S_S2 (constantI S_ 32 2#32))) (table b)) j = BitVec.ofNat 32 (from0 b k).val := by
  refine (column_at _ k j hj).trans ?_
  cases b <;> (fin_cases k <;> rfl)

/-- The gather reads the row its start index names, the other two coordinates as they are. -/
theorem gathered {α : Type} (b : Bool) (x : S2x4096x2048.Idx → α) (idx : IVec S2x1 32)
    (h : ∀ (k : Fin 2) (j : S2x1.Idx), j 0 = k → idx j = BitVec.ofNat 32 (from0 b k).val) :
    Host.gather gather_S2x4096x2048_S2x1_S2x4096x2048_12_0_n_n_0_1_140962048 x idx = permuted b x := by
  funext j
  refine congrArg x (funext fun a => Fin.ext ?_)
  match a with
  | ⟨0, _⟩ =>
    have e := h (j 0) ((gather_S2x4096x2048_S2x1_S2x4096x2048_12_0_n_n_0_1_140962048).siIdx j ⟨0, by decide⟩) rfl
    have e' : ∀ k : Fin 2, min (BitVec.ofNat 32 (from0 b k).val).toInt.toNat 1 + 0 + 0 = (from0 b k).val := by
      intro k; cases b <;> (fin_cases k <;> rfl)
    refine Eq.trans ?_ (e' (j 0))
    rw [← e]; rfl
  | ⟨1, _⟩ => exact (Nat.zero_add _).trans rfl
  | ⟨2, _⟩ => exact (Nat.zero_add _).trans rfl

/-- Block `c` of the permuted array is the block of the device whose rows `c` is sent. -/
theorem block_permuted {α : Type} (b : Bool) (c : Dev Cert.KernelIdeal.nD) (x : S2x4096x2048.Idx → α) :
    Layout.blockN ⟨3, ![1, 4096, 2048]⟩ ⟨3, ![2, 4096, 2048]⟩ (Layout.meshBlock [2, 2] ![[0], [], []] (source b c)) x
      = Layout.blockN ⟨3, ![1, 4096, 2048]⟩ ⟨3, ![2, 4096, 2048]⟩ (Layout.meshBlock [2, 2] ![[0], [], []] c) (permuted b x) := by
  funext i
  refine congrArg x (funext fun a => Fin.ext ?_)
  have h0 : (i 0).val < 1 := (i 0).isLt
  match a with
  | ⟨0, _⟩ =>
    show ((Layout.meshBlock [2, 2] ![[0], [], []] (source b c)) 0).val * 1 + (i 0).val
      = (from0 b _).val
    have e : ∀ c : Dev Cert.KernelIdeal.nD, ((Layout.meshBlock [2, 2] ![[0], [], []] (source b c)) (0 : Fin 3)).val * 1
        = (if b then 1 - ((Layout.meshBlock [2, 2] ![[0], [], []] c) (0 : Fin 3)).val * 1 else ((Layout.meshBlock [2, 2] ![[0], [], []] c) (0 : Fin 3)).val * 1) := by
      cases b <;> decide
    have h0' : (i 0).val = 0 := by omega
    refine (congrArg₂ (· + ·) (e c) h0').trans ?_
    show _ = (if b then 1 - (((Layout.meshBlock [2, 2] ![[0], [], []] c) (0 : Fin 3)).val * 1 + (i 0).val)
      else (((Layout.meshBlock [2, 2] ![[0], [], []] c) (0 : Fin 3)).val * 1 + (i 0).val))
    rw [h0']; rfl
  | ⟨1, _⟩ => rfl
  | ⟨2, _⟩ => rfl

end Cert.Permute

end
-- ==== Proof.Same.lean ====
/-
The kernel as it is read bit for bit is the text already proved, read at bit patterns: the two printings
differ in no operation.
-/
module

public import proofs.«01_k».proof.Proof.Gen.Kernel
public import proofs.«01_k».proof.Proof.Gen.KernelIdeal

@[expose] public section
noncomputable section

namespace Cert.Permute

open Idealize.ShloMosaic Idealize.ShloMosaic.TcCoe Idealize.SL.Sem

/-- The two printings of the kernel's function. -/
theorem body_fun : Cert.Kernel.cc0_body (F := Bits) = Cert.KernelIdeal.cc0_body (F := Bits) := by
  unfold Cert.Kernel.cc0_body Cert.KernelIdeal.cc0_body
  exact rfl
/-- The same, at its operands. -/
theorem same_body (a0 : Memref Cert.Kernel.sig .tc .smem Cert.Kernel.S2 .i32) (h0 : a0.IsWhole)
    (a1 : Memref Cert.Kernel.sig .tc .hbm Cert.Kernel.S1x4096x2048 .f32) (h1 : a1.IsWhole)
    (a2 : Memref Cert.Kernel.sig .tc .hbm Cert.Kernel.S1x4096x2048 .f32) (h2 : a2.IsWhole)
    (a3 a4 a5 : DmaSems Cert.Kernel.sig Cert.Kernel.S_) :
    Cert.Kernel.cc0_body (F := Bits) a0 h0 a1 h1 a2 h2 a3 a4 a5 = Cert.KernelIdeal.cc0_body (F := Bits) a0 h0 a1 h1 a2 h2 a3 a4 a5 := by
  rw [body_fun]
/-- The two tables of functions, then with the call's staging added. -/
theorem same_table : Cert.Kernel.defs₀ (F := Bits) = Cert.KernelIdeal.defs₀ (F := Bits) := by
  funext p l x
  match p with
  | .tc =>
    match l, x with
    | (0 : Fin 1), (t, s) =>
      exact same_body (Cert.Kernel.win0_0.stage (s 0)) (Cert.Kernel.Facts₀.hstage0_0 0) (Memref.whole Cert.Kernel.main_arg0) (Memref.isWhole_whole _)
        (Memref.whole Cert.Kernel.main_v1) (Memref.isWhole_whole _) Cert.Kernel.cc0_scratch0 Cert.Kernel.cc0_scratch1 Cert.Kernel.cc0_scratch2
  | .scScalar _ => rfl
  | .scVector _ _ => rfl
theorem same_defs : Cert.Kernel.defs (F := Bits) = Cert.KernelIdeal.defs (F := Bits) :=
  congrArg (Pipeline.defs (Cert.KernelIdeal.pcfgs (F := Bits))) same_table

end Cert.Permute
end
-- ==== Proof.Claims.lean ====
/-
The claims, each from the kernel's run or the reference's.
-/
module

public import proofs.«01_k».proof.Defs
public import proofs.«01_k».proof.Proof.Gen.Kernel
public import proofs.«01_k».proof.Proof.Gen.KernelIdeal
public import proofs.«01_k».proof.Proof.Gen.Pre_exchange_ReferenceIdeal
public import proofs.«01_k».proof.Proof.Gen.Pre_identity_ReferenceIdeal
public import proofs.«01_k».proof.Proof.Ref
public import proofs.«01_k».proof.Proof.Same

@[expose] public section

noncomputable section

namespace Cert.Permute

open Idealize.ShloMosaic Idealize.ShloMosaic.TcCoe Idealize.SL.Sem

/-! ## The frames -/

theorem frame_ideal_exchange : Cert.quiescent_KernelIdeal := fun m g h =>
  (θ_run Cert.KernelIdeal.defs _ _).mono (fun _ e => ⟨fun c => (e.1 c).2, e.2⟩)
    (run_main true m g (table_words fun c => exchange_table _ _ (h c)))

theorem frame_ideal_identity : Cert.quiescent_KernelIdeal_pre_identity_Kernel := fun m g h =>
  (θ_run Cert.KernelIdeal.defs _ _).mono (fun _ e => ⟨fun c => (e.1 c).2, e.2⟩)
    (run_main false m g (table_words fun c => identity_table _ _ (h c)))

theorem frame_exchange : Cert.quiescent_Kernel := by
  intro m g h
  rw [same_defs]
  exact (θ_run Cert.KernelIdeal.defs (onTc (τ := Cert.KernelIdeal.τ) (Cert.KernelIdeal.main (F := Bits))) ⟨m, fun _ => 0, g⟩).mono
    (fun _ e => ⟨fun c => (e.1 c).2, e.2⟩) (run_main (F := Bits) true m g (table_words fun c => exchange_table _ _ (h c)))

theorem frame_identity : Cert.quiescent_Kernel_pre_identity_Kernel := by
  intro m g h
  rw [same_defs]
  exact (θ_run Cert.KernelIdeal.defs (onTc (τ := Cert.KernelIdeal.τ) (Cert.KernelIdeal.main (F := Bits))) ⟨m, fun _ => 0, g⟩).mono
    (fun _ e => ⟨fun c => (e.1 c).2, e.2⟩) (run_main (F := Bits) false m g (table_words fun c => identity_table _ _ (h c)))

/-- The reference is a line of host operations and declares no semaphore. -/
theorem frame_reference : Cert.quiescent_ReferenceIdeal := fun m g _ =>
  (θ_run Cert.ReferenceIdeal.defs _ _).mono
    (fun r e => ⟨fun c => (e c).2, Idealize.ShloMosaic.sem_eq_zero_of_no_sems (by decide) r.2⟩)
    (Cert.ReferenceIdeal.Value.run m g)

theorem frame_reference_exchange : Cert.quiescent_ReferenceIdeal_pre_exchange_ReferenceIdeal :=
  fun m g _ => frame_reference m g trivial

theorem frame_reference_identity : Cert.quiescent_ReferenceIdeal_pre_identity_ReferenceIdeal :=
  fun m g _ => frame_reference m g trivial

/-! ## The values -/

/-- From a table on the reference's device, its result is the array with the blocks the table names. -/
theorem reference_value (b : Bool)
    (m : (ℓ : Loc Cert.ReferenceIdeal.nD Cert.ReferenceIdeal.τ Cert.ReferenceIdeal.sig) → Buf (Elt Ideal) ℓ)
    (g : Dev Cert.ReferenceIdeal.nD → PrngReg)
    (h : m (((0 : Dev Cert.ReferenceIdeal.nD).tc : Thread Cert.ReferenceIdeal.nD Cert.ReferenceIdeal.τ).loc Cert.ReferenceIdeal.main_arg1) = table b) :
    θ_run (Cert.ReferenceIdeal.defs (F := Ideal)) (onTc (τ := Cert.ReferenceIdeal.τ) (Cert.ReferenceIdeal.main (F := Ideal))) ⟨m, fun _ => 0, g⟩ (fun r =>
      r.2.mem (((0 : Dev Cert.ReferenceIdeal.nD).tc : Thread Cert.ReferenceIdeal.nD Cert.ReferenceIdeal.τ).loc Cert.ReferenceIdeal.main_v7)
        = permuted b (m (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
        = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1)
        = m (((0 : Dev Cert.ReferenceIdeal.nD).tc : Thread Cert.ReferenceIdeal.nD Cert.ReferenceIdeal.τ).loc Cert.ReferenceIdeal.main_arg1)) :=
  (θ_run Cert.ReferenceIdeal.defs _ _).mono (fun r e => by
    refine ⟨(e 0).1.trans ?_, (e 0).2⟩
    rw [h, sorted_table]
    exact gathered b _ _ (starts_at b)) (Cert.ReferenceIdeal.Value.run m g)

theorem value_exchange : Cert.algebraic_KernelIdeal_ReferenceIdeal := by
  intro m g m' g' hp hag
  have ht : ∀ c : Dev Cert.KernelIdeal.nD, m ((c.tc : Thread Cert.KernelIdeal.nD Cert.KernelIdeal.τ).loc Cert.KernelIdeal.main_arg1) = table true :=
    fun c => exchange_table _ _ (hp c)
  refine ⟨_, (θ_run Cert.KernelIdeal.defs _ _).mono (fun _ e c => ⟨((e.1 c).1.trans (hag _).1).trans (block_permuted true c _), (e.1 c).2⟩)
    (run_main true m g (table_words ht)), reference_value true m' g' ((hag 0).2.symm.trans (ht 0))⟩

theorem value_identity : Cert.algebraic_KernelIdeal_ReferenceIdeal_pre_identity_Kernel := by
  intro m g m' g' hp hag
  have ht : ∀ c : Dev Cert.KernelIdeal.nD, m ((c.tc : Thread Cert.KernelIdeal.nD Cert.KernelIdeal.τ).loc Cert.KernelIdeal.main_arg1) = table false :=
    fun c => identity_table _ _ (hp c)
  refine ⟨_, (θ_run Cert.KernelIdeal.defs _ _).mono (fun _ e c => ⟨((e.1 c).1.trans (hag _).1).trans (block_permuted false c _), (e.1 c).2⟩)
    (run_main false m g (table_words ht)), reference_value false m' g' ((hag 0).2.symm.trans (ht 0))⟩

end Cert.Permute

end
-- ==== Proof.lean ====
/-
The certificate's claim, its parts in order: the frames of the kernel, of its ideal reading and of the
reference, what the ideal reading preserves, and the two values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_exchange_Kernel
public import proofs.«01_k».proof.Proof.Claims
public import proofs.«01_k».proof.Proof.Gen.Pre_identity_Kernel
public import proofs.«01_k».proof.Proof.Gen.Pre_exchange_ReferenceIdeal
public import proofs.«01_k».proof.Proof.Gen.Pre_identity_ReferenceIdeal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_exchange_Kernel.Gen.facts,
    Cert.Pre_identity_Kernel.Gen.facts, Cert.Pre_exchange_ReferenceIdeal.Gen.facts, Cert.Pre_identity_ReferenceIdeal.Gen.facts,
    Cert.Permute.frame_exchange, Cert.Permute.frame_identity, Cert.Permute.frame_ideal_exchange, Cert.Permute.frame_ideal_identity,
    Cert.Permute.frame_reference, Cert.Permute.frame_reference_exchange, Cert.Permute.frame_reference_identity, trivial,
    Cert.Permute.value_exchange, Cert.Permute.value_identity⟩

end Cert.Proof

end
